-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v39) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S100000x128 : Shape := ⟨2, ![100000, 128]⟩
abbrev S100000 : Shape := ⟨1, ![100000]⟩
abbrev S10000x128 : Shape := ⟨2, ![10000, 128]⟩

abbrev nBuf : Space → Nat
  | .hbm => 3
  | .vmem => 4
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S100000x128 : Shape := ⟨2, ![100000, 128]⟩
abbrev S100000 : Shape := ⟨1, ![100000]⟩
abbrev S_ : Shape := ⟨0, ![]⟩
abbrev S16 : Shape := ⟨1, ![16]⟩
abbrev S100000x1 : Shape := ⟨2, ![100000, 1]⟩
abbrev S1 : Shape := ⟨1, ![1]⟩
abbrev S15 : Shape := ⟨1, ![15]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S_, .i32⟩
  | .hbm, ⟨3, _⟩ => ⟨S16, .i32⟩
  | .hbm, ⟨4, _⟩ => ⟨S_, .i32⟩
  | .hbm, ⟨5, _⟩ => ⟨S_, .i32⟩
  | .hbm, ⟨6, _⟩ => ⟨S100000, .i32⟩
  | .hbm, ⟨7, _⟩ => ⟨S100000, .i32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S_, .i32⟩
  | .hbm, ⟨17, _⟩ => ⟨S100000, .i32⟩
  | .hbm, ⟨18, _⟩ => ⟨S16, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S16, .i32⟩
  | .hbm, ⟨24, _⟩ => ⟨S15, .i32⟩
  | .hbm, ⟨25, _⟩ => ⟨S16, .i32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S100000, .i32⟩
  | .hbm, ⟨36, _⟩ => ⟨S100000, .i32⟩
  | .hbm, ⟨37, _⟩ => ⟨S_, .i32⟩
  | .hbm, ⟨38, _⟩ => ⟨S100000, .i32⟩
  | .hbm, ⟨39, _⟩ => ⟨S100000, .i1⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S100000, .i32⟩
  | .hbm, ⟨44, _⟩ => ⟨S100000x1, .i32⟩
  | .hbm, ⟨45, _⟩ => ⟨S100000, .i32⟩
  | .hbm, ⟨46, _⟩ => ⟨S100000, .i32⟩
  | .hbm, ⟨47, _⟩ => ⟨S_, .f32⟩
  | .hbm, ⟨48, _⟩ => ⟨S100000x128, .f32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S1, .i32⟩
  | .hbm, ⟨58, _⟩ => ⟨S_, .i32⟩
  | .hbm, ⟨59, _⟩ => ⟨S100000x1, .i32⟩
  | .hbm, ⟨60, _⟩ => ⟨S100000x1, .i1⟩
  | .hbm, ⟨61, _⟩ => ⟨S1x1, .i32⟩
  | .hbm, ⟨62, _⟩ => ⟨S100000x1, .i32⟩
  | .hbm, ⟨63, _⟩ => ⟨S100000x1, .i1⟩
  | .hbm, ⟨64, _⟩ => ⟨S100000x1, .i1⟩
  | .hbm, ⟨65, _⟩ => ⟨S_, .i1⟩
  | .hbm, ⟨66, _⟩ => ⟨S100000, .i1⟩
  | .hbm, ⟨67, _⟩ => ⟨S100000x128, .f32⟩
  | .hbm, ⟨68, _⟩ => ⟨S100000x128, .i1⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S100000, .i32⟩
  | .hbm, ⟨74, _⟩ => ⟨S100000, .i1⟩
  | .hbm, ⟨75, _⟩ => ⟨S_, .i32⟩
  | .hbm, ⟨76, _⟩ => ⟨S100000, .i32⟩
  | .hbm, ⟨77, _⟩ => ⟨S100000, .i32⟩
  | .hbm, ⟨78, _⟩ => ⟨S100000, .i32⟩
  | .hbm, ⟨79, _⟩ => ⟨S100000x1, .i32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_call1_call0_c : Ref sig .tc := ⟨.hbm, 21, rfl⟩
abbrev main_call1_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_c_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_call2_cst : Ref sig .tc := ⟨.hbm, 69, rfl⟩
abbrev main_call2_v15 : Ref sig .tc := ⟨.hbm, 70, rfl⟩
abbrev main_v32 : Ref sig .tc := ⟨.hbm, 71, rfl⟩
abbrev main_c_9 : Ref sig .tc := ⟨.hbm, 72, rfl⟩
abbrev main_v33 : Ref sig .tc := ⟨.hbm, 73, rfl⟩
abbrev main_v34 : Ref sig .tc := ⟨.hbm, 74, rfl⟩
abbrev main_c_10 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩

abbrev nD : Nat := 1
abbrev τ : Topo := Topo.v7x

variable {F : FTy → Type} [FloatOps F]
-- ==== Proof.KernelValue.lean ====
/-
  What the kernel computes. A grid point's body stores the block it loaded, unchanged; the input's and the output's
  blocks sit at the same rows; the ten blocks cover the array. So the result array ends equal to the argument.
-/
module

public import proofs.«01_k».proof.Proof.Gen.KernelIdeal.Value
public import Idealize.ShloMosaic.Lib.Pipeline.Value

@[expose] public section

noncomputable section

namespace Cert.KernelIdeal.Copy

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The table that device `c` is given. -/
abbrev table (c : Dev nD) : Buf (Elt F) ((c : Thread nD τ).loc main_v0) := m ((c : Thread nD τ).loc main_arg0)

/-- The origin of a block, coordinate by coordinate. -/
theorem origin : (![0, 0] : Fin 2 → Nat) = fun _ => 0 := funext fun a => by fin_cases a <;> rfl

/-- What point `t` writes back is block `t` of the table. -/
theorem flushed_eq (c : Dev nD) (t : Fin cfg0.N) :
    (dats m 0 c).flushed 1 t = (win0_1.blk t).view.read (Elt F) (table m c) := by
  rw [Value.flushed1]
  unfold out0_1
  rw [View.canon_unit_zero origin, View.ld_unit_zero origin]
  rfl

/-- Point `t`'s block of the output starts at row `10000 t` and is the array's full width. -/
theorem place : ∀ t : Fin cfg0.N, win0_1.index t 0 * win0_1.size 0 = t.val * 10000 ∧ win0_1.xsize (grid0.coords t) 0 = 10000
    ∧ win0_1.index t 1 * win0_1.size 1 = 0 ∧ win0_1.xsize (grid0.coords t) 1 = 128 := by
  decide +kernel

/-- Row `r` of the output is in the block of point `r / 10000`. -/
theorem cover (i : S100000x128.Idx) : ∃ t : Fin cfg0.N, (cfg0.win 1).flush t = true ∧ i ∈ ((cfg0.win 1).blk t).view.set := by
  have h0 : (i 0 : Nat) < 100000 := (i 0).isLt
  have h1 : (i 1 : Nat) < 128 := (i 1).isLt
  obtain ⟨t, ht⟩ : ∃ t : Fin cfg0.N, t.val = (i 0 : Nat) / 10000 :=
    ⟨⟨(i 0 : Nat) / 10000, by rw [show cfg0.N = 10 from by decide +kernel]; omega⟩, rfl⟩
  obtain ⟨a, b, e, f⟩ := place t
  refine ⟨t, flush0_1 t, ?_⟩
  show i ∈ ((View.whole main_v0).slice (win0_1.rect t)).set
  rw [View.set_slice_whole, Rect.mem_set_unit]
  intro k
  match k with
  | ⟨0, _⟩ =>
    show win0_1.index t 0 * win0_1.size 0 ≤ (i 0 : Nat) ∧ (i 0 : Nat) < win0_1.index t 0 * win0_1.size 0 + win0_1.xsize (grid0.coords t) 0
    rw [a, b]; omega
  | ⟨1, _⟩ =>
    show win0_1.index t 1 * win0_1.size 1 ≤ (i 1 : Nat) ∧ (i 1 : Nat) < win0_1.index t 1 * win0_1.size 1 + win0_1.xsize (grid0.coords t) 1
    rw [e, f]; omega

/-- So the result array ends holding the table. -/
theorem final (c : Dev nD) : (dats m 0 c).arrAt 1 cfg0.N = table m c :=
  (dats m 0 c).arrAt_eq_of_cover 1 (table m c) (fun t _ => flushed_eq m c t) cover

/-- The kernel's run: its result holds the table it was given, and both arguments are unchanged. -/
theorem run : θ_run defs (onTc (τ := τ) (main (F := F))) ⟨m, fun _ => 0, ρ⟩ fun r => ∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.KernelIdeal.Copy

end
-- ==== Proof.Rows.lean ====
/-
  Rows addressed by their own numbers, at any sizes: an index column that holds `0, 1, 2, …` sends a row scatter's
  update `(p, q)` to entry `(p, q)`, so that a scatter which sets its rows leaves just the updates. Also the two small
  facts about words that the reference's index arithmetic needs. Nothing here names a program.
-/
module

public import Idealize.ShloMosaic.Lib.Routing.Ops
public import Idealize.ShloMosaic.Lib.Routing.OpsSet
public import Idealize.ShloMosaic.Lib.Routing.OpsPair
public import Idealize.ShloMosaic.Lib.WordCmp

@[expose] public section

namespace Cert.Rows

open Idealize.ShloMosaic Idealize.ShloMosaic.ValueIdx Idealize.ShloMosaic.Routing

/-- A row scatter whose index column holds each row's own number sends update `(p, q)` to entry `(p, q)`. -/
theorem lands_own {N C : Nat} (d : ScatterDims (shape2 N C) (shape2 N 1) (shape2 N C)) (huw : d.updateWindowDims = [1])
    (hiw : d.insertedWindowDims = [0]) (hsd : d.scatterDimsToOperandDims = [0]) (hiv : d.indexVectorDim = 1)
    (hN : N < 2 ^ 31) (idx : IVec (shape2 N 1) 32) (hidx : ∀ p : Fin N, idx (ix2 p (0 : Fin 1)) = BitVec.ofNat 32 p.val)
    (p p' : Fin N) (q q' : Fin C) : d.resultIdx? (ix2 p q) idx = some (ix2 p' q') ↔ p = p' ∧ q = q' := by
  have hmem : (0 : Fin 2) ∈ d.scatterDimsToOperandDims := by rw [hsd]; exact List.mem_singleton.2 rfl
  have hkept : d.sKept = [1] := by
    show (shape2 N C).kept d.insertedWindowDims = _
    rw [hiw]; rfl
  -- an update's scatter axes are axis 0 alone, its window axes axis 1 alone
  have hscat : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have hwin : ∀ k ∈ d.updateWindowDims, k = (1 : Fin 2) := fun k hk => by rw [huw] at hk; exact List.mem_singleton.1 hk
  have at0 : ∀ X : Fin 2, X = 0 → (ix2 p q X).val = p.val := fun X h => by subst h; rfl
  have at1 : ∀ X : Fin 2, X = 1 → (ix2 p q X).val = q.val := fun X h => by subst h; rfl
  have w0 : d.window (ix2 p q) 0 = 0 := by
    unfold ScatterDims.window
    rw [dif_neg (by rw [hkept]; intro h; exact absurd (List.mem_singleton.1 h) (by decide : (0 : Fin 2) ≠ 1))]
  have w1 : d.window (ix2 p q) 1 = q.val := by
    unfold ScatterDims.window
    rw [dif_pos (by rw [hkept]; exact List.mem_singleton.2 rfl)]
    exact at1 _ (hwin _ (List.getElem_mem _))
  have s1 : d.start (ix2 p q) idx 1 = 0 := by
    unfold ScatterDims.start
    rw [dif_neg (by rw [hsd]; intro h; exact absurd (List.mem_singleton.1 h) (by decide : (1 : Fin 2) ≠ 0))]
  have s0 : d.start (ix2 p q) idx 0 = (p.val : Int) := by
    unfold ScatterDims.start
    rw [dif_pos hmem]
    have hsi : d.siIdx (ix2 p q) ⟨d.scatterDimsToOperandDims.idxOf 0, List.idxOf_lt_length_iff.2 hmem⟩ = ix2 p (0 : Fin 1) := by
      funext b
      match b with
      | ⟨0, _⟩ =>
        apply Fin.ext
        unfold ScatterDims.siIdx
        rw [dif_neg (by rw [hiv]; exact Nat.zero_ne_one)]
        exact at0 _ (hscat _ (List.getElem_mem _))
      | ⟨1, _⟩ => exact Subsingleton.elim (α := Fin 1) _ _
    rw [hsi, hidx, StableHlo.Predicate.toInt_ofNat_small _ (lt_trans p.isLt hN)]
  rw [Fin.ext_iff, Fin.ext_iff, resultIdx?_ix2, s0, w0, s1, w1]
  omega

/-- So such a scatter, setting its rows, leaves the updates, whatever its operand held. -/
theorem scatter_own {α : Type} {N C : Nat} (d : ScatterDims (shape2 N C) (shape2 N 1) (shape2 N C)) (huw : d.updateWindowDims = [1])
    (hiw : d.insertedWindowDims = [0]) (hsd : d.scatterDimsToOperandDims = [0]) (hiv : d.indexVectorDim = 1)
    (hN : N < 2 ^ 31) (idx : IVec (shape2 N 1) 32) (hidx : ∀ p : Fin N, idx (ix2 p (0 : Fin 1)) = BitVec.ofNat 32 p.val)
    (x0 upd : (shape2 N C).Idx → α) : Host.scatter d (fun _ b => b) x0 idx upd = upd := by
  have lands := lands_own d huw hiw hsd hiv hN idx hidx
  funext i
  obtain ⟨p, q, rfl⟩ : ∃ (p : Fin N) (q : Fin C), i = ix2 p q := ⟨i 0, i 1, eq_ix2 i⟩
  refine scatter_set_hit d x0 idx upd (ix2 p q) _ (fun k hk => ?_) (ix2 p q) ((lands p p q q).2 ⟨rfl, rfl⟩)
  obtain ⟨a, b, rfl⟩ : ∃ (a : Fin N) (b : Fin C), k = ix2 a b := ⟨k 0, k 1, eq_ix2 k⟩
  obtain ⟨rfl, rfl⟩ := (lands a p b q).1 hk
  rfl

/-- Bits that are all one have the conjunction one. -/
theorem foldl_andi_one {ι : Type} (g : ι → BitVec 1) (hg : ∀ n, g n = 1#1) (l : List ι) :
    l.foldl (fun r n => IntOp.andi r (g n)) 1#1 = 1#1 := by
  induction l with
  | nil => rfl
  | cons a t ih => rw [List.foldl_cons, hg a]; exact ih

/-- Adding to an offset the distance from it gives the position back, in wrapping words, whatever the offset. -/
theorem add_distance (o w : BitVec 32) : IntOp.addi o (IntOp.subi w o) = w := by
  show o + (w - o) = w
  rw [BitVec.add_comm, BitVec.sub_add_cancel]

end Cert.Rows
-- ==== Proof.RefValue.lean ====
/-
  What the reference computes. It addresses each atom by its graph's offset plus its place in the graph; the place is
  the position minus that same offset, so the address is the position itself, whatever the graph ids hold. The row
  gather then reads every row at its own number, the mask of in-range addresses is all true, and the row scatter puts
  every row back at its own number: the result is the table.
-/
module

public import proofs.«01_k».proof.Proof.Gen.ReferenceIdeal.Run
public import proofs.«01_k».proof.Proof.Gen.ReferenceIdeal.Read
public import proofs.«01_k».proof.Proof.Rows

@[expose] public section

noncomputable section

namespace Cert.ReferenceIdeal.RefValue

open Idealize.ShloMosaic Idealize.ShloMosaic.TcCoe Idealize.ShloMosaic.ValueIdx Idealize.SL.Sem
open Cert.ReferenceIdeal Cert.ReferenceIdeal.Read Idealize.ShloMosaic.WordCmp

variable {F : FTy → Type} [FloatOps F]
variable (x0 : (⟨S100000x128, .f32⟩ : BufTy).Contents (Elt F)) (x1 : (⟨S100000, .i32⟩ : BufTy).Contents (Elt F))

/-- The address of an atom is its position: offset plus (position minus offset). -/
theorem address_eq (i : S100000.Idx) : val_main_v30 (F := F) x1 i = BitVec.ofNat 32 (i 0).val := by
  have same : val_main_v29 (F := F) x1 = val_main_v21 (F := F) x1 := rfl
  rw [val_main_v30_apply, val_main_v22_apply, same, Cert.Rows.add_distance, val_main_v14_apply]

/-- A position, below 100000, is not negative as a signed word. -/
theorem not_negative (k : Fin 100000) : IntOp.cmpi .slt (BitVec.ofNat 32 k.val) 0#32 = 0#1 := by
  have hk := k.isLt
  rw [cmpi_slt_ofNat (by omega) (by decide), decide_eq_false (by omega)]
  rfl

/-- The gather's index column holds each row's own number: no address is negative, so none is wrapped. -/
theorem take_index (p : Fin 100000) (z : Fin 1) : val_main_call2_v5 (F := F) x1 (ix2 p z) = BitVec.ofNat 32 p.val := by
  rw [val_main_call2_v5_apply, val_main_call2_v4_apply, val_main_call2_v1_apply, val_main_call2_v0_apply,
    val_main_call2_c_apply, address_eq]
  show Scalar.select (IntOp.cmpi .slt (BitVec.ofNat 32 p.val) 0#32) _ _ = _
  rw [not_negative]
  rfl

/-- The scatter's index column holds each row's own number too. -/
theorem put_index (p : Fin 100000) (z : Fin 1) : val_main_v38 (F := F) (ix2 p z) = BitVec.ofNat 32 p.val := by
  rw [val_main_v38_apply, val_main_v37_apply, val_main_v34_apply, val_main_v33_apply, val_main_v14_apply]
  show Scalar.select (IntOp.cmpi .slt (BitVec.ofNat 32 p.val) 0#32) _ _ = _
  rw [not_negative]
  rfl

/-- Every address passes the range check `0 ≤ address ≤ 99999`. -/
theorem in_range (i : S100000x1.Idx) : val_main_call2_v11 (F := F) x1 i = 1#1 := by
  obtain ⟨p, z, rfl⟩ : ∃ (p : Fin 100000) (z : Fin 1), i = ix2 p z := ⟨i 0, i 1, eq_ix2 i⟩
  have hp := p.isLt
  rw [val_main_call2_v11_apply, val_main_call2_v7_apply, val_main_call2_v10_apply, take_index]
  rw [val_main_call2_v6_apply, val_main_call2_c_2_apply, val_main_call2_v9_apply, val_main_call2_v8_apply,
    val_main_call2_c_1_apply]
  rw [cmpi_sge_ofNat (by omega) (by decide), cmpi_sle_ofNat (by omega) (by decide), decide_eq_true (by omega),
    decide_eq_true (by omega)]
  rfl

/-- So the mask of rows to keep is true everywhere. -/
theorem mask_one (j : S100000.Idx) : val_main_call2_v12 (F := F) x1 j = 1#1 :=
  Cert.Rows.foldl_andi_one _ (fun _ => in_range x1 _) _

/-- The gathered rows, each at its own number and none masked away, are the table. -/
theorem taken_eq : val_main_v32 (F := F) x0 x1 = x0 := by
  funext i
  obtain ⟨p, q, rfl⟩ : ∃ (p : Fin 100000) (q : Fin 128), i = ix2 p q := ⟨i 0, i 1, eq_ix2 i⟩
  rw [val_main_v32_apply, val_main_call2_v14_apply, mask_one]
  show val_main_call2_v13 (F := F) x0 x1 (ix2 p q) = _
  exact Routing.gather_row _ rfl rfl rfl rfl rfl x0 _ p q p (take_index x1 p 0) (by decide)

/-- The scattered rows, each put at its own number, are the table: what the reference returns. -/
theorem result_eq : val_main_v39 (F := F) x0 x1 = x0 :=
  (Cert.Rows.scatter_own _ rfl rfl rfl rfl (by decide) _ (fun p => put_index p 0) _ _).trans (taken_eq x0 x1)

/-- The reference's run: its result holds the table it was given, and both arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v39_eq m c).trans (result_eq _ _)), (h c).2⟩)
    (Cert.ReferenceIdeal.Value.run m ρ)

end Cert.ReferenceIdeal.RefValue

end
-- ==== Proof.BitsRuns.lean ====
/-
  The same two runs for the programs read at bit patterns. Each program is its idealized twin's text under another
  name, and what the twin leaves was proved for any kind of float values, so the two values carry over as they stand.
-/
module

public import proofs.«01_k».proof.Proof.Gen.Kernel.Value
public import proofs.«01_k».proof.Proof.Gen.Reference.Read
public import proofs.«01_k».proof.Defs
public import proofs.«01_k».proof.Proof.KernelValue
public import proofs.«01_k».proof.Proof.RefValue

@[expose] public section

noncomputable section

namespace Cert.BitsRuns

open Idealize.ShloMosaic Idealize.ShloMosaic.TcCoe Idealize.SL.Sem

/-- The array the kernel's ten blocks leave, at bit patterns, is the table. -/
theorem kernel_eq (m : (ℓ : Loc Cert.Kernel.nD Cert.Kernel.τ Cert.Kernel.sig) → Buf (Elt Bits) ℓ) (c : Dev Cert.Kernel.nD) :
    (Cert.Kernel.Gen.dats m 0 c).arrAt 1 Cert.Kernel.cfg0.N = m ((c.tc : Thread Cert.Kernel.nD Cert.Kernel.τ).loc Cert.Kernel.main_arg0) :=
  Cert.KernelIdeal.Copy.final (F := Bits) m c

/-- The kernel's run at bit patterns: its result holds the table, and both arguments are unchanged. -/
theorem kernel_run (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ fun r => ∀ c : Dev Cert.Kernel.nD,
      r.2.mem ((c.tc : Thread Cert.Kernel.nD Cert.Kernel.τ).loc Cert.Kernel.main_v0) = m ((c.tc : Thread Cert.Kernel.nD Cert.Kernel.τ).loc Cert.Kernel.main_arg0)
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1) :=
  (θ_run Cert.Kernel.defs _ _).mono (fun _ h c => ⟨(h c).1.trans (kernel_eq m c), (h c).2⟩) (Cert.Kernel.Value.run_blocks (F := Bits) m ρ)

/-- The reference's value at bit patterns is the table. -/
theorem reference_eq (x0 : (⟨Cert.Reference.S100000x128, .f32⟩ : BufTy).Contents (Elt Bits)) (x1 : (⟨Cert.Reference.S100000, .i32⟩ : BufTy).Contents (Elt Bits)) :
    Cert.Reference.Read.val_main_v39 (F := Bits) x0 x1 = x0 :=
  Cert.ReferenceIdeal.RefValue.result_eq (F := Bits) x0 x1

/-- The reference's run at bit patterns: its result holds the table, and both arguments are unchanged. -/
theorem reference_run (m : (ℓ : Loc Cert.Reference.nD Cert.Reference.τ Cert.Reference.sig) → Buf (Elt Bits) ℓ) (ρ : Dev Cert.Reference.nD → PrngReg) :
    θ_run (Cert.Reference.defs (F := Bits)) (onTc (τ := Cert.Reference.τ) (Cert.Reference.main (F := Bits))) ⟨m, fun _ => 0, ρ⟩ fun r => ∀ c : Dev Cert.Reference.nD,
      r.2.mem ((c.tc : Thread Cert.Reference.nD Cert.Reference.τ).loc Cert.Reference.main_v39) = m ((c.tc : Thread Cert.Reference.nD Cert.Reference.τ).loc Cert.Reference.main_arg0)
      ∧ r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1) :=
  (θ_run Cert.Reference.defs _ _).mono (fun _ h c => ⟨(h c).1.trans ((Cert.Reference.Read.val_main_v39_eq m c).trans (reference_eq _ _)), (h c).2⟩)
    (Cert.Reference.Value.run (F := Bits) m ρ)

end Cert.BitsRuns

end
-- ==== Proof.lean ====
/-
  The proof of `Cert.Claim` (proofs.«01_k».proof.Defs), put together from the modules beside it. Proof/KernelValue.lean:
  the kernel's ten blocks leave the table in the result. Proof/Rows.lean and Proof/RefValue.lean: the reference reads
  and puts back every row at its own number, so it returns the table too. Proof/BitsRuns.lean: the same at bit patterns.
-/
module

public import proofs.«01_k».proof.Defs
public import proofs.«01_k».proof.Proof.Gen.Kernel.Frame
public import proofs.«01_k».proof.Proof.Gen.KernelIdeal.Frame
public import proofs.«01_k».proof.Proof.Gen.Reference.Run
public import proofs.«01_k».proof.Proof.Gen.ReferenceIdeal.Run
public import proofs.«01_k».proof.Proof.KernelValue
public import proofs.«01_k».proof.Proof.RefValue
public import proofs.«01_k».proof.Proof.BitsRuns
public import Idealize.ShloMosaic.Lib.Quiescent

@[expose] public section

noncomputable section

namespace Cert.Proof

open Idealize.ShloMosaic Idealize.SL.Sem

/-- The kernel runs, keeps its arguments and ends quiet. -/
theorem frame_kernel : Cert.quiescent_Kernel := fun m ρ _ => Cert.Kernel.Gen.frame m ρ

/-- So does its idealized twin. -/
theorem frame_kernel_ideal : Cert.quiescent_KernelIdeal := fun m ρ _ => Cert.KernelIdeal.Gen.frame m ρ

/-- The reference runs, keeps its arguments and ends quiet: it has no semaphores. -/
theorem frame_reference : Cert.quiescent_Reference := fun m ρ _ =>
  (θ_run Cert.Reference.defs _ _).mono
    (fun r h => ⟨fun c => (h c).2, Idealize.ShloMosaic.sem_eq_zero_of_no_sems (by decide) r.2⟩) (Cert.BitsRuns.reference_run m ρ)

/-- So does its idealized twin. -/
theorem frame_reference_ideal : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.RefValue.run m ρ)

/-- At extended reals the kernel and the reference both return the table. -/
theorem algebraic : Cert.algebraic_KernelIdeal_ReferenceIdeal := fun m ρ m' ρ' _ agree =>
  ⟨fun c => m ((c.tc : Thread Cert.KernelIdeal.nD Cert.KernelIdeal.τ).loc Cert.KernelIdeal.main_arg0),
    Cert.KernelIdeal.Copy.run m ρ,
    (θ_run Cert.ReferenceIdeal.defs _ _).mono (fun _ h c => ⟨(h c).1.trans (agree c).1, (h c).2⟩) (Cert.ReferenceIdeal.RefValue.run m' ρ')⟩

/-- At bit patterns they return the same bits, the table's. -/
theorem bitexact : Cert.bitexact_Kernel_Reference := fun m ρ m' ρ' _ agree =>
  ⟨fun c => m ((c.tc : Thread Cert.Kernel.nD Cert.Kernel.τ).loc Cert.Kernel.main_arg0),
    Cert.BitsRuns.kernel_run m ρ,
    (θ_run Cert.Reference.defs _ _).mono (fun _ h c => ⟨(h c).1.trans (agree c).1, (h c).2⟩) (Cert.BitsRuns.reference_run m' ρ')⟩

/-- Every claim of the certificate. -/
theorem claim : Cert.Claim :=
  ⟨Cert.Kernel.Gen.facts, Cert.KernelIdeal.Gen.facts, Cert.Reference.Gen.facts, Cert.ReferenceIdeal.Gen.facts,
    frame_kernel, frame_kernel_ideal, frame_reference, frame_reference_ideal, trivial, algebraic, bitexact⟩

end Cert.Proof

end
